-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1x512 : Shape := ⟨2, ![1, 512]⟩
abbrev S3x1x512 : Shape := ⟨3, ![3, 1, 512]⟩
abbrev S3 : Shape := ⟨1, ![3]⟩
abbrev S_ : Shape := ⟨0, ![]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S3x1x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v50 : BitVec 32 := Scalar.addi v2 c1_i32_31
  let c4_i32_32 : BitVec 32 := 4#32
  let c0_i32_33 : BitVec 32 := 0#32
  let v51 : BitVec 1 := Scalar.cmpi .eq c4_i32_32 c0_i32_33
  let c1_i32_34 : BitVec 32 := 1#32
  let v52 : BitVec 32 := Scalar.select v51 c1_i32_34 c4_i32_32
  let v53 : BitVec 32 := Scalar.remsi v50 v52
  let c0_i32_36 : BitVec 32 := 0#32
  let v55 : BitVec 1 := Scalar.cmpi .slt v53 c0_i32_36
  let c0_i32_37 : BitVec 32 := 0#32
  let v56 : BitVec 1 := Scalar.cmpi .slt v52 c0_i32_37
  let v57 : BitVec 1 := Scalar.xori v55 v56
  let c0_i32_35 : BitVec 32 := 0#32
  let v54 : BitVec 1 := Scalar.cmpi .ne v53 c0_i32_35
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v69 : BitVec 32 := Scalar.addi v2 c2_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v80 : BitVec 32 := Scalar.muli v79 c1_i32_55
  let v81 : BitVec 32 := Scalar.addi c0_i32_56 v80
  v81.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v88 : BitVec 32 := Scalar.addi v2 c3_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_69 : BitVec 32 := 1#32
  let v99 : BitVec 32 := Scalar.muli v98 c1_i32_69
  let v100 : BitVec 32 := Scalar.addi c0_i32_70 v99
  v100.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S_, .bf16⟩
  | .hbm, ⟨2, _⟩ => ⟨S_, .bf16⟩
  | .hbm, ⟨3, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.KernelIdeal.Protocol.lean ====
/-
The exchange of the four devices' column sums, as a schedule of rounds.

Device `c` talks to the device `up k c`, which stands `k + 1` places after it round the mesh, for each `k : Fin 3`.
It first tells each of them, on the runtime's barrier semaphore, that its gather buffer is free; having heard from all
three it copies its column sums into slot `k` of `up k c`'s gather buffer. So slot `k` of device `c` is filled by the
device `k + 1` places before it, which is `up (rev k) c`.

Each device has seven cells: the barrier, and for each `k` the completion of its copy `k` at the sender (`send k`) and
at the receiver (`recv k`). The barrier cell has three duties of one unit. Duty `j` of `c`'s barrier is paid by
`up j c`, and hands over slot `j` of `up j c`: the place `c`'s copy `j` goes. A send cell has one duty and hands back
the part of the column-sum buffer that was lent to the copy. A receive cell has one duty and hands over the filled slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's and the exchange's -/

/-- The exchange's part: rounds over the machine's semaphores, duties numbered by `Fin 3`. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## Who talks to whom -/

set_option backward.proofsInPublic true in
/-- The device `k + 1` places after `c`. -/
def up (k : Fin 3) (c : Dev nD) : Dev nD := ⟨(c.val + (k.val + 1)) % 4, Nat.mod_lt _ (by decide)⟩

/-- Going `rev k + 1` places undoes going `k + 1` places. -/
abbrev rev (k : Fin 3) : Fin 3 := Fin.rev k

theorem up_rev_up (k : Fin 3) (c : Dev nD) : up (rev k) (up k c) = c := by revert k c; decide
theorem up_up_rev (k : Fin 3) (c : Dev nD) : up k (up (rev k) c) = c := by revert k c; decide

/-- `up k` as a permutation of the devices. -/
def turn (k : Fin 3) : Dev nD ≃ Dev nD := ⟨up k, up (rev k), up_rev_up k, up_up_rev k⟩

theorem dev1_eq (c : Dev nD) : (⟨k0_dev1 c, k0_dev1_lt c⟩ : Dev nD) = up 0 c := by revert c; decide +kernel
theorem dev2_eq (c : Dev nD) : (⟨k0_dev2 c, k0_dev2_lt c⟩ : Dev nD) = up 1 c := by revert c; decide +kernel
theorem dev3_eq (c : Dev nD) : (⟨k0_dev3 c, k0_dev3_lt c⟩ : Dev nD) = up 2 c := by revert c; decide +kernel
theorem dev4_eq (c : Dev nD) : (⟨k0_dev4 c, k0_dev4_lt c⟩ : Dev nD) = up 0 c := by revert c; decide +kernel
theorem dev5_eq (c : Dev nD) : (⟨k0_dev5 c, k0_dev5_lt c⟩ : Dev nD) = up 1 c := by revert c; decide +kernel
theorem dev6_eq (c : Dev nD) : (⟨k0_dev6 c, k0_dev6_lt c⟩ : Dev nD) = up 2 c := by revert c; decide +kernel

/-! ## Buffers and cells -/

abbrev xM : Memref sig .tc .vmem S512x512 .bf16 := Memref.whole cc0_stg0_0
abbrev outM : Memref sig .tc .vmem S512x512 .bf16 := Memref.whole cc0_stg1_0
/-- The device's own column sums. -/
abbrev totM : Memref sig .tc .vmem S1x512 .f32 := Memref.whole cc0_scratch0
/-- The three slots the other devices' column sums land in. -/
abbrev gatherM : Memref sig .tc .vmem S3x1x512 .f32 := Memref.whole cc0_scratch1

theorem slot_inb (k : Fin 3) : ∀ a : Fin S3x1x512.rank, (![k.val, 0, 0] : Fin 3 → ℕ) a + S1x1x512.size a ≤ S3x1x512.size a := by
  revert k; decide
abbrev slotRect (k : Fin 3) : Rect S3x1x512 := Rect.unit (s := S3x1x512) ![k.val, 0, 0] S1x1x512.size (slot_inb k)
/-- Slot `k` of the gather buffer, as the copies name it. -/
abbrev slotM (k : Fin 3) : Memref sig .tc .vmem S1x512 .f32 :=
  (gatherM.slice (slotRect k) (fun _ => rfl)).squeeze S1x512 squeezes_S1x1x512_S1x512

theorem sem_inb (k : Fin 3) : ∀ a : Fin S3.rank, (![k.val] : Fin 1 → ℕ) a + S1.size a ≤ S3.size a := by revert k; decide
abbrev sendS (k : Fin 3) : DmaSem sig :=
  ((cc0_scratch2.slice (Rect.unit (s := S3) ![k.val] S1.size (sem_inb k))).squeeze S_ squeezes_S1_S_).sem
abbrev recvS (k : Fin 3) : DmaSem sig :=
  ((cc0_scratch3.slice (Rect.unit (s := S3) ![k.val] S1.size (sem_inb k))).squeeze S_ squeezes_S1_S_).sem
/-- The runtime's barrier semaphore. -/
abbrev barS : Sem sig := (SemArray.scalar (sig.barrier 0 rfl) : Sems sig S_).sem

/-- A device's cells: the barrier (`none`), the send cells (`some (false, k)`), the receive cells (`some (true, k)`). -/
abbrev Role : Type := Option (Bool × Fin 3)
abbrev semOf : Role → SemLoc sig
  | none => .reg barS
  | some (false, k) => .dma (sendS k)
  | some (true, k) => .dma (recvS k)
/-- Every role, in the order the proofs list them. -/
abbrev roles : List Role :=
  [none, some (false, 0), some (false, 1), some (false, 2), some (true, 0), some (true, 1), some (true, 2)]

/-- Which of the seven a semaphore is, if any. -/
def roleOf (s : SemLoc sig) : Option Role := roles.find? fun r => semOf r = s

theorem roleOf_semOf (r : Role) : roleOf (semOf r) = some r := by revert r; decide
theorem semOf_injective : Function.Injective semOf := fun r r' h => by
  have := congrArg roleOf h; rw [roleOf_semOf, roleOf_semOf] at this; exact Option.some.inj this

abbrev cell (c : Dev nD) (r : Role) : GSem nD τ sig := ((c : Thread nD τ), semOf r)
abbrev barCell (c : Dev nD) : GSem nD τ sig := cell c none
abbrev sendCell (c : Dev nD) (k : Fin 3) : GSem nD τ sig := cell c (some (false, k))
abbrev recvCell (c : Dev nD) (k : Fin 3) : GSem nD τ sig := cell c (some (true, k))

theorem cell_inj {c c' : Dev nD} {r r' : Role} (h : cell c r = cell c' r') : c = c' ∧ r = r' :=
  ⟨Fin.ext (congrArg (fun g : GSem nD τ sig => g.1.1.val) h), semOf_injective (congrArg Prod.snd h)⟩

/-- The credit of one copy: one row of column sums. -/
abbrev N : ℕ := totM.view.dmaCredit
theorem N_pos : 0 < N := View.dmaCredit_pos _ (by decide)
theorem slot_credit (k : Fin 3) : (slotM k).view.dmaCredit = N := by revert k; decide

/-! ## Contents -/

/-- Device `c`'s block of the operand, as the kernel finds it. -/
def xstg (c : Dev nD) : (cc0_stg0_0 : Ref sig .tc).ty.Contents (Elt F) :=
  (win0_0.blk (0 : Fin 1)).view.read (Elt F) (m ((c : Thread nD τ).loc main_arg0))
/-- Its column sums. -/
def sums (c : Dev nD) : Vec F S1x512 .f32 := k0_pay2 (xstg m c)

def slotPts (c : Dev nD) (k : Fin 3) (f : Buf (Elt F) ((slotM k).view.loc (c : Thread nD τ))) : sProp 𝕄 :=
  (slotM k).view.loc (c : Thread nD τ) ↦[(slotM k).view.set]{fullShare} f
/-- The share of the column sums lent to copy `k`. -/
abbrev part (k : Fin 3) : PosShare TreeShare := Ring.shares3 fullShare k
def totPts (c : Dev nD) (q : PosShare TreeShare) (f : Buf (Elt F) (totM.view.loc (c : Thread nD τ))) : sProp 𝕄 :=
  totM.view.loc (c : Thread nD τ) ↦[totM.view.set]{q} f

omit [FloatOps F] in
instance slotPts_storable (c : Dev nD) (k : Fin 3) (f) : BI.Storable (upEmb : UEmb _ 𝕄) (slotPts (F := F) c k f) := by
  unfold slotPts; infer_instance
omit [FloatOps F] in
instance totPts_storable (c : Dev nD) (q) (f) : BI.Storable (upEmb : UEmb _ 𝕄) (totPts (F := F) c q f) := by
  unfold totPts; infer_instance

/-- Slot `k` of device `c` filled with the row `w`. -/
def filled (c : Dev nD) (k : Fin 3) (w : Vec F S1x512 .f32) : sProp 𝕄 :=
  iprop(∃ f, ⌜(slotM k).view.read (Elt F) f = w⌝ ∗ slotPts c k f)

/-! ## The schedule -/

/-- What duty `j` of `c`'s barrier hands over: slot `j` of `up j c`, and that its receive cell `j` is at its first round. -/
def barPay (c : Dev nD) (j : Fin 3) : sProp 𝕄 := iprop((∃ f, slotPts (up j c) j f) ∗ reached EX (recvCell (up j c) j) 0)
def sendPay (c : Dev nD) (k : Fin 3) : sProp 𝕄 := totPts c (part k) (sums m c)
def recvPay (c : Dev nD) (k : Fin 3) : sProp 𝕄 := filled c k (sums m (up (rev k) c))

/-- The payload of duty `d` of device `c`'s cell `r`. -/
def pay (c : Dev nD) (d : Fin 3) : Role → sProp 𝕄
  | none => barPay c d
  | some (false, k) => sendPay m c k
  | some (true, k) => recvPay m c k

/-- The duties of a cell: three at a barrier, one elsewhere. -/
def dutiesOf : Role → Finset (Fin 3)
  | none => Finset.univ
  | some _ => {0}
def amountOf : Role → ℕ
  | none => 1
  | some _ => N

theorem amountOf_pos (r : Role) : 0 < amountOf r := by
  cases r with
  | none => exact Nat.one_pos
  | some _ => exact N_pos

def sched : Rounds.Schedule (GSem nD τ sig) (Fin 3) 𝕄 where
  duties g r := if r = 0 ∧ g.1.2 = .tc then ((roleOf g.2).elim ∅ dutiesOf) else ∅
  unitless _ := False
  amount g _ _ := (roleOf g.2).elim 1 amountOf
  payload g _ d := (roleOf g.2).elim iprop(emp) (pay m g.1.1 d)
  amount_pos g _ _ _ := by
    cases roleOf g.2 with
    | none => exact Nat.one_pos
    | some r => exact amountOf_pos r

instance sched_storable (g : GSem nD τ sig) (r : ℕ) (d : Fin 3) :
    BI.Storable (upEmb : UEmb _ 𝕄) ((sched (F := F) m).payload g r d) := by
  show BI.Storable upEmb ((roleOf g.2).elim iprop(emp) (pay m g.1.1 d))
  cases roleOf g.2 with
  | none => dsimp only [Option.elim]; infer_instance
  | some r =>
    rcases r with _ | ⟨_ | _, k⟩ <;> simp only [Option.elim, pay, barPay, sendPay, recvPay, filled] <;> infer_instance

section Facts
variable (c : Dev nD) (r : Role)

theorem duties_cell : (sched (F := F) m).duties (cell c r) 0 = dutiesOf r := by
  dsimp only [sched]
  rw [if_pos ⟨rfl, rfl⟩]
  show (roleOf (semOf r)).elim ∅ dutiesOf = _
  rw [roleOf_semOf]; rfl
theorem duties_later (g : GSem nD τ sig) : ∀ r, 1 ≤ r → (sched (F := F) m).duties g r = ∅ :=
  fun r hr => if_neg fun h => by omega
theorem amount_cell (d : Fin 3) : (sched (F := F) m).amount (cell c r) 0 d = amountOf r := by
  show (roleOf (semOf r)).elim 1 amountOf = _
  rw [roleOf_semOf]; rfl
theorem payload_cell (d : Fin 3) : (sched (F := F) m).payload (cell c r) 0 d = pay m c d r := by
  show (roleOf (semOf r)).elim iprop(emp) (pay m c d) = _
  rw [roleOf_semOf]; rfl

theorem expect_bar : (sched (F := F) m).expect (barCell c) 0 = 3 := by
  unfold Schedule.expect Schedule.amountOf
  rw [duties_cell, Finset.sum_congr rfl fun d _ => amount_cell m c none d]; rfl
theorem expect_some (x : Bool × Fin 3) : (sched (F := F) m).expect (cell c (some x)) 0 = N := by
  unfold Schedule.expect Schedule.amountOf
  rw [duties_cell]; exact (Finset.sum_singleton _ _).trans (amount_cell m c (some x) 0)

theorem bigSep_three (Φ : Fin 3 → sProp 𝕄) : bigSep Finset.univ Φ = iprop(Φ 0 ∗ Φ 1 ∗ Φ 2) :=
  bigSep_univ_eq_bigSepL [0, 1, 2] (by decide) (by decide) Φ

/-- A finished barrier round hands over the three slots the copies go to. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_cell, bigSep_congr fun d _ => payload_cell m c none d]
  exact bigSep_three (fun d => barPay c d)
theorem rest_some (x : Bool × Fin 3) :
    bigSep ((sched (F := F) m).duties (cell c (some x)) 0 \ ∅) (fun d => (sched (F := F) m).payload (cell c (some x)) 0 d)
      = pay m c 0 (some x) := by
  rw [Finset.sdiff_empty, duties_cell]
  exact bigSep_singleton.trans (payload_cell m c (some x) 0)

end Facts

/-! ## What a device owes, and the order of the cells -/

abbrev owesBar (c : Dev nD) (k : Fin 3) : CellTallies nD τ sig Unit := tallyAt (barCell (up k c)) () 1
abbrev owesRecv (c : Dev nD) (k : Fin 3) : CellTallies nD τ sig Unit := tallyAt (recvCell (up k c) k) () N
/-- After its three signals a device owes the three copies; -/
def O₁ (c : Dev nD) : CellTallies nD τ sig Unit := 0 + owesRecv c 2 + owesRecv c 1 + owesRecv c 0
/-- at the start the three signals as well. The sums are written so that each step pays the last summand. -/
def O₀ (c : Dev nD) : CellTallies nD τ sig Unit := O₁ c + owesBar c 2 + owesBar c 1 + owesBar c 0

def L (g : GSem nD τ sig) : Finset Unit := if g.1.2 = .tc then {()} else ∅
/-- Barrier cells at 1, receive cells at 2, all others at 0. -/
def lv (g : GSem nD τ sig) (_ : Unit) : ℕ :=
  match roleOf g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [show roleOf (barCell c).2 = _ from roleOf_semOf none]
theorem lv_recv (c : Dev nD) (k : Fin 3) (u : Unit) : lv (recvCell c k) u = 2 := by
  unfold lv; rw [show roleOf (recvCell c k).2 = _ from roleOf_semOf (some (true, k))]

theorem O₁_pos {c : Dev nD} {g : GSem nD τ sig} {u : Unit} (h : 0 < O₁ c g u) : ∃ d k, g = recvCell d k := by
  by_contra hn
  push Not at hn
  unfold O₁ at h
  simp only [Pi.add_apply, Finsupp.add_apply, tallyAt_apply, Pi.zero_apply, Finsupp.coe_zero] at h
  rw [if_neg fun h' => hn _ _ h'.1, if_neg fun h' => hn _ _ h'.1, if_neg fun h' => hn _ _ h'.1] at h
  exact Nat.lt_irrefl 0 h
theorem O₀_pos {c : Dev nD} {g : GSem nD τ sig} {u : Unit} (h : 0 < O₀ c g u) : (∃ d k, g = recvCell d k) ∨ ∃ d, g = barCell d := by
  by_contra hn
  push Not at hn
  unfold O₀ at h
  simp only [Pi.add_apply, Finsupp.add_apply, tallyAt_apply] at h
  rw [if_neg fun h' => hn.2 _ h'.1, if_neg fun h' => hn.2 _ h'.1, if_neg fun h' => hn.2 _ h'.1] at h
  obtain ⟨d, k, hg⟩ := O₁_pos (c := c) (g := g) (u := u) h
  exact hn.1 d k hg

/-- A wait on a cell at level `l` is allowed while all that is owed lies above `l`. -/
theorem mayWait_of (c : Dev nD) (sm : SemLoc sig) (l : ℕ) (hl : ∀ u, lv ((c : Thread nD τ), sm) u ≤ l) (O : CellTallies nD τ sig Unit)
    (hO : ∀ g u, 0 < O g u → ∃ d r, g = cell d r ∧ l < lv g u) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by obtain ⟨d, r, rfl, -⟩ := hO g u hg; exact Finset.mem_singleton_self _)
    (fun p hp => by rw [Finset.mem_singleton.mp hp]; exact hl _)
    (fun g u hg => by obtain ⟨d, r, -, h⟩ := hO g u hg; exact h)

/-- The barrier wait: only receive cells are owed. -/
theorem mayWait_bar (c : Dev nD) : (levAts L lv : sProp 𝕄) ⊢ MayWait (c : Thread nD τ) (.reg barS) () (O₁ c) :=
  mayWait_of c _ 1 (fun u => (lv_bar c u).le) _ fun g u h => by
    obtain ⟨d, k, rfl⟩ := O₁_pos h
    exact ⟨d, _, rfl, by rw [lv_recv]; decide⟩

/-- The staging waits: barrier and receive cells are owed. -/
theorem mayWait_stage (c : Dev nD) (q : DmaSem sig) (hq : roleOf (.dma q) = none) (O : CellTallies nD τ sig Unit) (hO : O = O₀ c ∨ O = 0) :
    (levAts L lv : sProp 𝕄) ⊢ MayWait (c : Thread nD τ) (.dma q) () O :=
  mayWait_of c _ 0 (fun u => by unfold lv; rw [hq]) _ fun g u h => by
    rcases hO with rfl | rfl
    · rcases O₀_pos h with ⟨d, k, rfl⟩ | ⟨d, rfl⟩
      · exact ⟨d, _, rfl, by rw [lv_recv]; decide⟩
      · exact ⟨d, _, rfl, by rw [lv_bar]; decide⟩
    · exact absurd h (Nat.lt_irrefl 0)

/-! ## A device's part of the exchange -/

/-- Every cell's invariant, at the names `K`, and that every cell's first round is open: known to all devices. -/
def records (K : Dev nD × Role → ℕ) : sProp 𝕄 :=
  iprop((bigSep Finset.univ fun x : Dev nD × Role => cellInv EX (sched m) (K x) (cell x.1 x.2))
    ∗ bigSep Finset.univ fun x : Dev nD × Role => reached EX (cell x.1 x.2) 0)

instance records_persistent (K : Dev nD × Role → ℕ) : BI.Persistent (records m K) := by unfold records; infer_instance

theorem records_inv (K : Dev nD × Role → ℕ) (c : Dev nD) (r : Role) :
    records m K ⊢ (cellInv EX (sched m) (K (c, r)) (cell c r) : sProp 𝕄) := by
  unfold records
  iintro ⟨H, -⟩
  iapply (show _ ⊢ (cellInv EX (sched m) (K (c, r)) (cell c r) : sProp 𝕄) from
    bigSep_elim (Φ := fun x : Dev nD × Role => (cellInv EX (sched m) (K x) (cell x.1 x.2) : sProp 𝕄)) (Finset.mem_univ (c, r)))
  iexact H
theorem records_reached (K : Dev nD × Role → ℕ) (c : Dev nD) (r : Role) :
    records m K ⊢ (reached EX (cell c r) 0 : sProp 𝕄) := by
  unfold records
  iintro ⟨-, H⟩
  iapply (show _ ⊢ (reached EX (cell c r) 0 : sProp 𝕄) from
    bigSep_elim (Φ := fun x : Dev nD × Role => (reached EX (cell x.1 x.2) 0 : sProp 𝕄)) (Finset.mem_univ (c, r)))
  iexact H

/-- The tokens of the duties device `c` pays towards `up k c`: the signal, the copy's arrival, the copy's departure. -/
def payToks (c : Dev nD) (k : Fin 3) : sProp 𝕄 :=
  iprop(dutyTok EX (barCell (up k c)) 0 (rev k) ∗ dutyTok EX (recvCell (up k c) k) 0 0 ∗ dutyTok EX (sendCell c k) 0 0)
/-- Device `c`'s places in its own seven cells, and its tokens. -/
def mine (c : Dev nD) : sProp 𝕄 :=
  iprop((bigSep Finset.univ fun r : Role => atPos EX (cell c r) 0 ∅ 0) ∗ bigSep Finset.univ fun k : Fin 3 => payToks c k)
def ghost (K : Dev nD × Role → ℕ) (c : Dev nD) : sProp 𝕄 := iprop(records m K ∗ mine c)

/-- The credit a device starts with: its barrier's three units and its three arrivals. -/
def credits (c : Dev nD) : sProp 𝕄 :=
  iprop(cred (tallyAt (barCell c) () 3) ∗ bigSep Finset.univ fun k : Fin 3 => cred (tallyAt (recvCell c k) () N))

def start (c : Dev nD) : sProp 𝕄 := iprop((∃ K, ghost m K c) ∗ credits c ∗ levAts L lv)

/-- The column-sum buffer and the gather buffer, whole, at some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
/-- Every one of the seven counters back at zero. -/
def quiet (c : Dev nD) : sProp 𝕄 := bigSep Finset.univ fun r : Role => semVal (cell c r) 0

end Cert.KernelIdeal.Exchange

end
-- ==== Proof.KernelIdeal.Slots.lean ====
/-
The gather buffer as its three slots, and the column-sum buffer as its three lent parts.

Reading slot `k` through the whole buffer's rectangle gives the row the copy put there, as a `1 × 1 × 512` block
(`lift`). The three slots' elements are disjoint and are all of the buffer's, so the buffer is held whole exactly when
the slots are held one by one.
-/
module

public import proofs.«01_k».proof.Proof.KernelIdeal.Protocol

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A row as the `1 × 1 × 512` block a load of a slot returns. -/
def lift (w : Vec F S1x512 .f32) : Vec F S1x1x512 .f32 :=
  fun i => w ((Shape.reshapeEquiv shapeCasts_S1x1x512_S1x512).symm i)

theorem shapeCast_lift (w : Vec F S1x512 .f32) (h : S1x1x512.ShapeCasts S1x512) : shapeCast S1x512 (lift w) h = w := by
  funext j
  show w ((Shape.reshapeEquiv _).symm (Shape.reshapeEquiv _ j)) = w j
  rw [Equiv.symm_apply_apply]

/-- A load of slot `k` from the gather buffer returns the row that was copied into it. -/
theorem load_slot (k : Fin 3) (f : (cc0_scratch1 : Ref sig .tc).ty.Contents (Elt F)) (w : Vec F S1x512 .f32)
    (h : (slotM k).view.read (Elt F) f = w) : gatherM.view.readAt (Elt F) (slotRect k).toLoadRect f = lift w := by
  subst h
  funext i
  show _ = gatherM.view.read (Elt F) f ((slotRect k).emb
    (Shape.reshapeEquiv squeezes_S1x1x512_S1x512.numel_eq ((Shape.reshapeEquiv shapeCasts_S1x1x512_S1x512).symm i)))
  rw [Equiv.apply_symm_apply]; rfl

theorem slot_set (k : Fin 3) : (slotM k).view.set = (slotRect k).set :=
  (View.set_reshape _ _).trans (View.set_slice_whole _ _)

theorem slot_loads (k : Fin 3) : gatherM.view.setOn (slotRect k).toLoadRect.set ⊆ (slotM k).view.set := by
  rw [slot_set]
  exact (Finset.map_refl (s := (slotRect k).set)).le

theorem slots_disjoint (k k' : Fin 3) (h : k ≠ k') : Disjoint (slotM k).view.set (slotM k').view.set := by
  rw [slot_set, slot_set]
  exact Ring.lead_disjoint (s := S3x1x512) (NB := 3) 0 1 (fun k => ![k.val, 0, 0]) S1x1x512.size slot_inb
    (fun k => (Nat.one_mul _).symm) rfl k k' h

/-- The elements of slot `k`, as elements of the gather buffer. -/
abbrev slotSet (k : Fin 3) : Finset (cc0_scratch1 : Ref sig .tc).ty.Idx := (slotM k).view.set

theorem slots_cover : (Finset.univ : Finset (Fin 3)).biUnion slotSet = Finset.univ := by
  rw [show slotSet = fun k => (slotRect k).set from funext slot_set]
  exact Ring.lead_cover (s := S3x1x512) (NB := 3) 0 1 (fun k => ![k.val, 0, 0]) S1x1x512.size slot_inb
    (fun k => (Nat.one_mul _).symm) (by decide) rfl (by decide) rfl

/-- The gather buffer, whole, is its three slots. -/
theorem gather_slots (c : Dev nD) (f : Buf (Elt F) ((c : Thread nD τ).loc cc0_scratch1)) :
    (((c : Thread nD τ).loc cc0_scratch1) ↦{fullShare} f : sProp 𝕄) = bigSep Finset.univ fun k : Fin 3 => slotPts c k f := by
  have h := pointsTo_biUnion (nD := nD) (τ := τ) (sig := sig) (Ix := Unit) (Val := Elt F) (Name := ℕ) (U := UU) (Lvl := ℕ)
    (ℓ := (c : Thread nD τ).loc cc0_scratch1) (q := fullShare) (f := f)
    (Finset.univ : Finset (Fin 3)) slotSet fun k _ k' _ h => slots_disjoint k k' h
  rw [slots_cover] at h
  exact h

/-- The three slots, each at its own contents, are the gather buffer whole at some contents. -/
theorem gather_join (c : Dev nD) :
    (bigSep Finset.univ fun k : Fin 3 => iprop(∃ f, slotPts (F := F) c k f) : sProp 𝕄)
      ⊢ iprop(∃ f : Buf (Elt F) ((c : Thread nD τ).loc cc0_scratch1), ((c : Thread nD τ).loc cc0_scratch1) ↦{fullShare} f) := by
  rw [bigSep_three]
  unfold slotPts
  iintro ⟨⟨%f0, H0⟩, ⟨%f1, H1⟩, ⟨%f2, H2⟩⟩
  have h := pointsTo_biUnion_join (nD := nD) (τ := τ) (sig := sig) (Ix := Unit) (Val := Elt F) (Name := ℕ) (U := UU) (Lvl := ℕ)
    (ℓ := (c : Thread nD τ).loc cc0_scratch1) (q := fullShare)
    (Finset.univ : Finset (Fin 3)) slotSet ![f0, f1, f2] f0 fun k _ k' _ h => slots_disjoint k k' h
  rw [slots_cover, bigSep_three] at h
  ihave H := h $$ [H0 H1 H2]
  · isplitl [H0]; · iexact H0
    isplitl [H1]; · iexact H1
    iexact H2
  icases H with ⟨%g, -, H⟩
  iexists g; iexact H

theorem tot_set : totM.view.set = Finset.univ := View.set_whole _

/-- The column sums, whole, are the three parts lent to the copies. -/
theorem tot_parts (c : Dev nD) (f : Buf (Elt F) ((c : Thread nD τ).loc cc0_scratch0)) :
    (((c : Thread nD τ).loc cc0_scratch0) ↦{fullShare} f : sProp 𝕄)
      ⊣⊢ iprop(totPts c (part 0) f ∗ totPts c (part 1) f ∗ totPts c (part 2) f) := by
  unfold totPts
  rw [tot_set]
  exact Ring.pointsTo_thirds fullShare f

end Cert.KernelIdeal.Exchange

end
-- ==== Proof.KernelIdeal.Steps.lean ====
/-
The steps of the exchange, each stated once for every `k`: a signal to `up k c`, the barrier wait, the copy to
`up k c`, the wait for the arrival in slot `k`, the wait for the departure of copy `k`, and the closing of a cell whose
round is over.
-/
module

public import proofs.«01_k».proof.Proof.KernelIdeal.Slots

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Role → ℕ) (c : Dev nD)

/-- What `c`'s signal to `up k c` pays: its slot `rev k`, whose receive cell has reached its round. -/
theorem barrier_pays (k : Fin 3) :
    iprop((∃ f, slotPts (F := F) c (rev k) f) ∗ reached EX (recvCell c (rev k)) 0) ⊢ (sched m).payload (barCell (up k c)) 0 (rev k) := by
  rw [show (sched (F := F) m).payload _ 0 (rev k) = _ from payload_cell m (up k c) none (rev k)]
  show _ ⊢ barPay (up k c) (rev k)
  unfold barPay
  rw [up_rev_up]

/-- What copy `k` brings to `up k c`: the slot, filled with `c`'s column sums. -/
theorem arrival_pays (k : Fin 3) (f : Buf (Elt F) ((slotM k).view.loc (up k c : Thread nD τ))) :
    ((slotM k).view.loc (up k c : Thread nD τ) ↦[(slotM k).view.set]{fullShare}
        (slotM k).view.write (Elt F) f (totM.view.read (Elt F) (sums m c)) Finset.univ)
      ⊢ (sched m).payload (recvCell (up k c) k) 0 0 := by
  rw [show (sched (F := F) m).payload _ 0 0 = _ from payload_cell m (up k c) (some (true, k)) 0]
  show _ ⊢ filled (up k c) k (sums m (up (rev k) (up k c)))
  rw [up_rev_up]
  unfold filled slotPts
  iintro H
  iexists (slotM k).view.write (Elt F) f (totM.view.read (Elt F) (sums m c)) Finset.univ
  isplitr
  · ipureintro; exact View.read_write_univ _ _
  · iexact H

section
variable {α : Type} {next : PUnit → Prog (TpuEff nD τ sig (Elt F) Λ₀ .tc) α}

/-- The signal to `up k c` hands over `c`'s slot `rev k`, where that device's copy goes. -/
theorem signal_step (Q : α → sProp 𝕄) (k : Fin 3) (n : Dev nD) (hn : n = up k c) (u : ℤ) (hu : u = ((1 : ℕ) : ℤ)) (O : CellTallies nD τ sig Unit) (W : Waits sig Unit) :
    iprop(records m K ∗ owes (c : Thread nD τ) (O + owesBar c k) W ∗ dutyTok EX (barCell (up k c)) 0 (rev k) ∗ ∃ f, slotPts (F := F) c (rev k) f)
      ⊢ iprop((owes (c : Thread nD τ) O W -∗ wp frame (wpE (defs₀ (F := F)) 𝒱₀ (c : Thread nD τ) none) Set.univ (next ⟨⟩) Q) -∗ wp frame (wpE (defs₀ (F := F)) 𝒱₀ (c : Thread nD τ) none) Set.univ (.op (.semSignal (n : Thread nD τ) barS u) next) Q) := by
  subst hn hu
  iintro ⟨#HR, HO, Ht, Hs⟩
  ihave #HI := (records_inv m K (up k c) none) $$ HR
  ihave #HB := (records_reached m K (up k c) none) $$ HR
  ihave #HV := (records_reached m K c (some (true, rev k))) $$ HR
  iapply (Rounds.wp_signal 𝒱₀ EX (sched m) (c : Thread nD τ) none (dst := (up k c : Thread nD τ)) (κ := K (up k c, none)) (r := 0)
    (d := rev k) (by rw [show (sched (F := F) m).duties _ 0 = _ from duties_cell m (up k c) none]; exact Finset.mem_univ _)
    (amount_cell m (up k c) none (rev k)) () O rfl)
  isplitr; · iexact HI
  isplitl [HO]; · iexact HO
  isplitl [Ht]; · iexact Ht
  isplitl [Hs]
  · iapply (barrier_pays m c k)
    isplitl [Hs]; · iexact Hs
    iexact HV
  iexact HB

/-- The barrier wait, for all three: each of the others has handed over the slot `c`'s copy goes to. -/
theorem barrier_step (Q : α → sProp 𝕄) (u : ℤ) (hu : u = ((3 : ℕ) : ℤ)) (W : Waits sig Unit) :
    iprop(records m K ∗ levAts L lv ∗ cred (tallyAt (barCell c) () 3) ∗ owes (c : Thread nD τ) (O₁ c) W ∗ atPos EX (barCell c) 0 ∅ 0)
      ⊢ iprop(((owes (c : Thread nD τ) (O₁ c) (insert (SemLoc.reg barS, ()) W) ∗ atPos EX (barCell c) 1 ∅ 0
            ∗ barPay c 0 ∗ barPay c 1 ∗ barPay (F := F) c 2) -∗ wp frame (wpE (defs₀ (F := F)) 𝒱₀ (c : Thread nD τ) none) Set.univ (next ⟨⟩) Q)
          -∗ wp frame (wpE (defs₀ (F := F)) 𝒱₀ (c : Thread nD τ) none) Set.univ (.op (.semWait barS u) next) Q) := by
  subst hu
  iintro ⟨#HR, #Hlev, Hc, HO, Hat⟩ Hk
  iapply (Rounds.wp_wait_rest_token 𝒱₀ EX (sched m) (c : Thread nD τ) none (κ := K (c, none))
      (wpE_semWait_eq 𝒱₀ (c : Thread nD τ) none Set.univ) (Set.mem_univ _) () (O := O₁ c) (W := W) (R := 0) (m := 0) (T := ∅)
      (by rw [Nat.zero_add]; exact (expect_bar m c).symm)) $$ [Hc HO Hat]
  · isplitr; · iapply (records_inv m K c none); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- Copy `k`: part `k` of `c`'s column sums goes to slot `k` of `up k c`. -/
theorem copy_step (Q : α → sProp 𝕄) (k : Fin 3) (n : Dev nD) (hn : n = up k c) (D : Memref sig .tc .vmem S1x512 .f32) (hD : D = slotM k)
    (s r : DmaSem sig) (hs : s = sendS k) (hr : r = recvS k)
    {hsc : (D : Memref sig (Dev.tc n : Thread nD τ).2.kind .vmem S1x512 .f32).view.ref.isScScratch = false}
    {hsrc : totM.view.WordExact} {hdst : D.view.WordExact}
    {hsem : DmaTarget.Typed .vmem (.dma r) (.remote (Dev.tc n : Thread nD τ) D (.dma s) hsc)}
    (O : CellTallies nD τ sig Unit) (W : Waits sig Unit) :
    iprop(records m K ∗ owes (c : Thread nD τ) (O + owesRecv c k) W ∗ totPts c (part k) (sums m c) ∗ (∃ f, slotPts (F := F) (up k c) k f)
        ∗ dutyTok EX (recvCell (up k c) k) 0 0 ∗ dutyTok EX (sendCell c k) 0 0)
      ⊢ iprop(((cred (tallyAt (sendCell c k) () N) ∗ owes (c : Thread nD τ) O W) -∗ wp frame (wpE (defs₀ (F := F)) 𝒱₀ (c : Thread nD τ) none) Set.univ (next ⟨⟩) Q)
          -∗ wp frame (wpE (defs₀ (F := F)) 𝒱₀ (c : Thread nD τ) none) Set.univ (.op (.enqueueDma totM (.remote (Dev.tc n : Thread nD τ) D (.dma s) hsc) (.dma r) hsrc hdst hsem) next) Q) := by
  subst hn hD hs hr
  have hd₁ : (0 : Fin 3) ∈ (sched (F := F) m).duties ((c : Thread nD τ), .dma (sendS k)) 0 := by
    rw [show (sched (F := F) m).duties _ 0 = _ from duties_cell m c (some (false, k))]; exact Finset.mem_singleton_self _
  have hd₂ : (0 : Fin 3) ∈ (sched (F := F) m).duties ((up k c : Thread nD τ), .dma (recvS k)) 0 := by
    rw [show (sched (F := F) m).duties _ 0 = _ from duties_cell m (up k c) (some (true, k))]; exact Finset.mem_singleton_self _
  have hk₁ : (sched (F := F) m).amount ((c : Thread nD τ), .dma (sendS k)) 0 0 = N := amount_cell m c (some (false, k)) 0
  have hk₂ : (sched (F := F) m).amount ((up k c : Thread nD τ), .dma (recvS k)) 0 0 = N := amount_cell m (up k c) (some (true, k)) 0
  have hN : (slotM k).view.amount (.dma (recvS k)) = N := slot_credit k
  have hO : O + owesRecv c k = O + tallyAt ((up k c : Thread nD τ), .dma (recvS k)) () N := rfl
  have hp₁ : (totM.view.loc (c : Thread nD τ) ↦[totM.view.set]{part k} sums m c) ⊢ (sched m).payload ((c : Thread nD τ), .dma (sendS k)) 0 0 := by
    rw [show (sched (F := F) m).payload ((c : Thread nD τ), .dma (sendS k)) 0 0 = _ from payload_cell m c (some (false, k)) 0]
    exact BI.Entails.refl _
  iintro ⟨#HR, HO, Hsrc, ⟨%f, Hdst⟩, Htr, Hts⟩ Hk
  ihave #HI₁ := (records_inv m K c (some (false, k))) $$ HR
  ihave #HI₂ := (records_inv m K (up k c) (some (true, k))) $$ HR
  ihave #HB₁ := (records_reached m K c (some (false, k))) $$ HR
  ihave #HB₂ := (records_reached m K (up k c) (some (true, k))) $$ HR
  iapply (Rounds.wp_send_pointsTo 𝒱₀ EX (sched m) (c : Thread nD τ) none (c' := (up k c : Thread nD τ)) (src := totM) (dst := slotM k)
    (sS := .dma (sendS k)) (sem := .dma (recvS k)) (κ₁ := K (c, some (false, k))) (κ₂ := K (up k c, some (true, k))) (q := part k)
    (fs := sums m c) (fd := f) hd₁ hd₂ () () N hN hk₁ hk₂ O hO (W := W) hp₁ (arrival_pays m c k f)) $$ [HO Hsrc Hdst Htr Hts]
  · isplitr; · iexact HI₁
    isplitr; · iexact HI₂
    isplitl [Hsrc]; · unfold totPts; iexact Hsrc
    isplitl [Hdst]; · unfold slotPts; iexact Hdst
    isplitl [HO]; · iexact HO
    isplitl [Hts]; · iexact Hts
    isplitr; · iexact HB₁
    isplitl [Htr]; · iexact Htr
    iexact HB₂
  iexact Hk

/-- The wait for one of the copy cells, nothing owed: its payload comes back. -/
theorem copied_step (Q : α → sProp 𝕄) (x : Bool × Fin 3) (s : DmaSem sig) (hs : SemLoc.dma s = semOf (some x))
    {S T : Shape} (A : Memref sig .tc .vmem S .f32) (B : Memref sig .tc .vmem T .f32) (hB : B.view.dmaCredit = N)
    {hA : A.view.WordExact} {hB' : B.view.WordExact} (W : Waits sig Unit) :
    iprop(records m K ∗ cred (tallyAt (cell c (some x)) () N) ∗ owes (c : Thread nD τ) 0 W ∗ atPos EX (cell c (some x)) 0 ∅ 0)
      ⊢ iprop(((owes (c : Thread nD τ) 0 (insert (semOf (some x), ()) W) ∗ atPos EX (cell c (some x)) 1 ∅ 0 ∗ pay m c 0 (some x)) -∗ wp frame (wpE (defs₀ (F := F)) 𝒱₀ (c : Thread nD τ) none) Set.univ (next ⟨⟩) Q)
          -∗ wp frame (wpE (defs₀ (F := F)) 𝒱₀ (c : Thread nD τ) none) Set.univ (.op (.waitDma2 s A B hA hB') next) Q) := by
  have hc : cell c (some x) = ((c : Thread nD τ), SemLoc.dma s) := by rw [hs]
  iintro ⟨#HR, Hc, HO, Hat⟩ Hk
  ihave #HI := (records_inv m K c (some x)) $$ HR
  iapply (Rounds.wp_wait_rest_token 𝒱₀ EX (sched m) (c : Thread nD τ) none (sm := SemLoc.dma s) (k' := B.view.dmaCredit) (κ := K (c, some x))
      (wpE_waitDma2_eq 𝒱₀ (c : Thread nD τ) none Set.univ) (Set.mem_univ _) () (O := 0) (W := W) (R := 0) (m := 0) (T := ∅)
      (by rw [Nat.zero_add, hB, ← hc]; exact (expect_some m c x).symm)) $$ [Hc HO Hat]
  · rw [← hc, hB]
    isplitr; · iexact HI
    isplitl [Hc]; · iexact Hc
    isplitl [HO]; · iexact HO
    isplitr; · rw [MayWait_zero]; iempintro
    iexact Hat
  rw [← hc]
  iintro ⟨HO, Hat, -, Hpay⟩
  ihave Hp := (Entails.of_eq (rest_some m c x)) $$ Hpay
  iapply Hk
  rw [← hs]
  isplitl [HO]; · iexact HO
  isplitl [Hat]; · iexact Hat
  iexact Hp

/-- The column sums that land in slot `k` of device `c`: those of the device `k + 1` places before it. -/
abbrev landed (k : Fin 3) : Vec F S1x512 .f32 := sums m (up (rev k) c)

omit K in
theorem arrived (k : Fin 3) : pay m c 0 (some (true, k)) = filled c k (landed m c k) := rfl

/-- The load of slot `k` once its copy has arrived. -/
theorem load_step (Q : α → sProp 𝕄) (k : Fin 3)
    {hl : gatherM.view.LoadsAt (slotRect k).toLoadRect} {after : Vec F S1x1x512 .f32 → Prog (TpuEff nD τ sig (Elt F) Λ₀ .tc) α} :
    pay m c 0 (some (true, k))
      ⊢ iprop((pay m c 0 (some (true, k)) -∗ wp frame (wpE (defs₀ (F := F)) 𝒱₀ (c : Thread nD τ) none) Set.univ (after (lift (landed m c k))) Q)
          -∗ wp frame (wpE (defs₀ (F := F)) 𝒱₀ (c : Thread nD τ) none) Set.univ (.op (.load gatherM (slotRect k).toLoadRect hl) after) Q) := by
  rw [arrived]
  unfold filled slotPts
  iintro ⟨%f, %hf, Hs⟩ Hk
  iapply (wp_load 𝒱₀ (c : Thread nD τ) none Set.univ (m := gatherM) (slot_loads k)) $$ Hs; iintro Hs
  rw [load_slot k f _ hf]
  iapply Hk
  iexists f
  isplitr
  · ipureintro; exact hf
  · iexact Hs

end

/-- A cell whose one round is over closes: its counter is zero, and the device's again. -/
theorem close_cell (r : Role) : iprop(records m K ∗ atPos EX (cell c r) 1 ∅ 0) ⊢ (|={Set.univ}=> semVal (cell c r) 0 : sProp 𝕄) := by
  iintro ⟨#HR, Hat⟩
  iapply (Rounds.cell_close EX (sched m) (κ := K (c, r)) (Set.mem_univ _) (fun h => h) (R := 1) (duties_later m (cell c r)))
  isplitr; · iapply (records_inv m K c r); iexact HR
  iexact Hat

/-- All seven of them. -/
theorem close_all :
    iprop(records m K ∗ bigSep Finset.univ fun r : Role => atPos EX (cell c r) 1 ∅ 0) ⊢ (|={Set.univ}=> quiet c : sProp 𝕄) := by
  unfold quiet
  refine BI.Entails.trans ?_ (bigSep_fupd _ _)
  refine (sep_mono_left (BI.bigSep_of_persistent (Finset.univ : Finset Role) (records m K))).trans ?_
  rw [← bigSep_sep']
  exact bigSep_mono fun r _ => close_cell m K c r

end Cert.KernelIdeal.Exchange

end
-- ==== Proof.KernelIdeal.Body.lean ====
/-
One device's body: from its share of the exchange and its block of the operand, through the signals, the copies and the
waits, to its block of the result.
-/
module

public import proofs.«01_k».proof.Proof.KernelIdeal.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The device's number, as the body computes it. -/
abbrev word (c : Dev nD) : BitVec 32 := Scalar.remsi (Scalar.divsi (Dev.word c) 1#32) 4#32

/-- Whether the device one place before the one numbered `w` comes earlier in the array, as the body computes it. -/
def before1 (w : BitVec 32) : BitVec 1 :=
  let s : BitVec 32 := Scalar.select (Scalar.cmpi .eq 4#32 0#32) 1#32 4#32
  let t : BitVec 32 := Scalar.remsi (Scalar.subi w 1#32) s
  Scalar.cmpi .slt (Scalar.select (Scalar.andi (Scalar.xori (Scalar.cmpi .slt t 0#32) (Scalar.cmpi .slt s 0#32)) (Scalar.cmpi .ne t 0#32))
    (Scalar.addi t s) t) w

/-- Device `c`'s block of the result. -/
def outAt (c : Dev nD) : (cc0_stg1_0 : Ref sig .tc).ty.Contents (Elt F) :=
  k0_pay6 (word c) (k0_pay3 (k0_pay1 (xstg m c)))
    (k0_pay5 (word c) k0_pay4 (before1 (word c)) (lift (landed m c 0)) (lift (landed m c 1))) (lift (landed m c 2))

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => iprop(start m c ∗ scratch c)
    | ⟨_ + 1, _⟩ => iprop(quiet c ∗ scratch c)
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Whole-buffer loads and stores -/

abbrev blockRect : Rect S512x512 := Rect.unit (s := S512x512) ![0, 0] S512x512.size inb_S512x512_S512x512_0_0
abbrev rowRect : Rect S1x512 := Rect.unit (s := S1x512) ![0, 0] S1x512.size inb_S1x512_S1x512_0_0

theorem two_zeros : (![0, 0] : Fin 2 → ℕ) = fun _ => 0 := funext fun a => by fin_cases a <;> rfl
omit [FloatOps F] in
theorem read_x (f : (cc0_stg0_0 : Ref sig .tc).ty.Contents (Elt F)) : xM.view.readAt (Elt F) blockRect.toLoadRect f = f :=
  Memref.readAt_unit_zero (Elt F) cc0_stg0_0 two_zeros _ f
omit [FloatOps F] in
theorem write_out (f w : (cc0_stg1_0 : Ref sig .tc).ty.Contents (Elt F)) :
    (outM.access blockRect : View sig .tc _ _ _).write (Elt F) f w Finset.univ = w :=
  Memref.write_access_unit_zero_univ (Elt F) cc0_stg1_0 two_zeros _ f w
omit [FloatOps F] in
theorem write_tot (f w : (cc0_scratch0 : Ref sig .tc).ty.Contents (Elt F)) :
    (totM.access rowRect : View sig .tc _ _ _).write (Elt F) f w Finset.univ = w :=
  Memref.write_access_unit_zero_univ (Elt F) cc0_scratch0 two_zeros _ f w

/-- One conjunct for each role. -/
theorem bigSep_roles (Φ : Role → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL roles (by decide) (by decide) Φ

/-! ## The body -/

abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (K : Dev nD × Role → ℕ) (c : Dev nD) : sProp 𝕄 :=
  iprop(ghost m K c ∗ credits c ∗ levAts L lv ∗ scratch c
    ∗ (dats m 0 c).owesAt () t₀.castSucc
    ∗ (∃ d, holds c cc0_stg0_0 ((dats m 0 c).before (0 : Fin 2) t₀ d))
    ∗ (∃ d, holds c cc0_stg1_0 ((dats m 0 c).before (1 : Fin 2) t₀ d)))

def bodyPost (c : Dev nD) : sProp 𝕄 :=
  iprop((quiet c ∗ scratch c) ∗ (dats m 0 c).owesAt () t₀.succ ∗ holds c cc0_stg0_0 (xstg m c) ∗ holds c cc0_stg1_0 (outAt m c))

/-- The two scratch buffers come back: the column sums from their three parts, the gather buffer from its slots. -/
theorem scratch_back (c : Dev nD) :
    iprop((pay m c 0 (some (false, 0)) ∗ pay m c 0 (some (false, 1)) ∗ pay m c 0 (some (false, 2)))
        ∗ pay m c 0 (some (true, 0)) ∗ pay m c 0 (some (true, 1)) ∗ pay m c 0 (some (true, 2))) ⊢ (scratch (F := F) c : sProp 𝕄) := by
  rw [arrived, arrived, arrived]
  unfold scratch filled
  iintro ⟨Ht, ⟨%f0, -, H0⟩, ⟨%f1, -, H1⟩, ⟨%f2, -, H2⟩⟩
  isplitl [Ht]
  · iexists (sums m c)
    iapply ((tot_parts c (sums m c)).2)
    iexact Ht
  · iapply (gather_join c)
    rw [bigSep_three]
    isplitl [H0]; · iexists f0; iexact H0
    isplitl [H1]; · iexists f1; iexact H1
    iexists f2; iexact H2

/-- What the body has waited for when it ends. -/
abbrev waited (W : Waits sig Unit) : Waits sig Unit :=
  insert (semOf (some (false, 2)), ()) (insert (semOf (some (false, 1)), ()) (insert (semOf (some (false, 0)), ())
    (insert (semOf (some (true, 2)), ()) (insert (semOf (some (true, 1)), ()) (insert (semOf (some (true, 0)), ())
      (insert (SemLoc.reg barS, ()) W))))))

set_option maxHeartbeats 1600000 in
theorem sound_body (K : Dev nD × Role → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost mine credits scratch payToks
  rw [bigSep_roles, bigSep_three, bigSep_three]
  iintro ⟨⟨⟨#HR, ⟨HaB, HaS0, HaS1, HaS2, HaV0, HaV1, HaV2⟩, ⟨Hb0, Hv0, Hs0⟩, ⟨Hb1, Hv1, Hs1⟩, ⟨Hb2, Hv2, Hs2⟩⟩, ⟨HcB, HcV0, HcV1, HcV2⟩, #Hlev,
      ⟨⟨%ft, Htot⟩, ⟨%fg, Hgat⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  ihave Hsl := (Entails.of_eq ((gather_slots c fg).trans (bigSep_three _))) $$ Hgat
  icases Hsl with ⟨Hg0, Hg1, Hg2⟩
  -- the three signals, each handing over one slot
  iapply (signal_step m K c _ 0 _ (dev1_eq c) _ (by decide) _ W) $$ [HO Hb0 Hg2]
  · isplitr; · iexact HR
    isplitl [HO]; · iexact HO
    isplitl [Hb0]; · iexact Hb0
    iexists fg; iexact Hg2
  iintro HO
  iapply (signal_step m K c _ 1 _ (dev2_eq c) _ (by decide) _ W) $$ [HO Hb1 Hg1]
  · isplitr; · iexact HR
    isplitl [HO]; · iexact HO
    isplitl [Hb1]; · iexact Hb1
    iexists fg; iexact Hg1
  iintro HO
  iapply (signal_step m K c _ 2 _ (dev3_eq c) _ (by decide) _ W) $$ [HO Hb2 Hg0]
  · isplitr; · iexact HR
    isplitl [HO]; · iexact HO
    isplitl [Hb2]; · iexact Hb2
    iexists fg; iexact Hg0
  iintro HO
  -- the barrier: the others' slots
  iapply (barrier_step m K c _ _ (by decide) W) $$ [HcB HO HaB]
  · isplitr; · iexact HR
    isplitr; · iexact Hlev
    isplitl [HcB]; · iexact HcB
    isplitl [HO]; · iexact HO
    iexact HaB
  unfold barPay
  iintro ⟨HO, HaB, ⟨Hd0, -⟩, ⟨Hd1, -⟩, ⟨Hd2, -⟩⟩
  -- the column sums
  iapply (wp_load 𝒱₀ (c : Thread nD τ) none Set.univ (m := xM) (Finset.subset_univ _)) $$ Hx; iintro Hx
  rw [read_x]
  iapply (wp_load 𝒱₀ (c : Thread nD τ) none Set.univ (m := totM) (Finset.subset_univ _)) $$ Htot; iintro Htot
  iapply (wp_store 𝒱₀ (c : Thread nD τ) none Set.univ (m := totM) (r := rowRect) (Mk := Finset.univ) (Finset.subset_univ _)) $$ Htot; iintro Htot
  rw [write_tot, show k0_pay2 (xstg m c) = sums m c from rfl]
  ihave Hp := ((tot_parts c (sums m c)).1) $$ Htot
  icases Hp with ⟨Hp0, Hp1, Hp2⟩
  -- the three copies
  unfold O₁
  iapply (copy_step m K c _ 0 _ (dev4_eq c) _ rfl _ _ rfl rfl _ _) $$ [HO Hp0 Hd0 Hv0 Hs0]
  · isplitr; · iexact HR
    isplitl [HO]; · iexact HO
    isplitl [Hp0]; · iexact Hp0
    isplitl [Hd0]; · iexact Hd0
    isplitl [Hv0] <;> iassumption
  iintro ⟨HcS0, HO⟩
  iapply (copy_step m K c _ 1 _ (dev5_eq c) _ rfl _ _ rfl rfl _ _) $$ [HO Hp1 Hd1 Hv1 Hs1]
  · isplitr; · iexact HR
    isplitl [HO]; · iexact HO
    isplitl [Hp1]; · iexact Hp1
    isplitl [Hd1]; · iexact Hd1
    isplitl [Hv1] <;> iassumption
  iintro ⟨HcS1, HO⟩
  iapply (copy_step m K c _ 2 _ (dev6_eq c) _ rfl _ _ rfl rfl _ _) $$ [HO Hp2 Hd2 Hv2 Hs2]
  · isplitr; · iexact HR
    isplitl [HO]; · iexact HO
    isplitl [Hp2]; · iexact Hp2
    isplitl [Hd2]; · iexact Hd2
    isplitl [Hv2] <;> iassumption
  iintro ⟨HcS2, HO⟩
  -- the three arrivals, each slot read as it comes
  iapply (copied_step m K c _ (true, 0) _ rfl _ _ (slot_credit 0) _) $$ [HcV0 HO HaV0]
  · isplitr; · iexact HR
    isplitl [HcV0]; · iexact HcV0
    isplitl [HO] <;> iassumption
  iintro ⟨HO, HaV0, Hf0⟩
  iapply (load_step m c _ 0) $$ Hf0
  iintro Hf0
  iapply (copied_step m K c _ (true, 1) _ rfl _ _ (slot_credit 1) _) $$ [HcV1 HO HaV1]
  · isplitr; · iexact HR
    isplitl [HcV1]; · iexact HcV1
    isplitl [HO] <;> iassumption
  iintro ⟨HO, HaV1, Hf1⟩
  iapply (load_step m c _ 1) $$ Hf1
  iintro Hf1
  iapply (copied_step m K c _ (true, 2) _ rfl _ _ (slot_credit 2) _) $$ [HcV2 HO HaV2]
  · isplitr; · iexact HR
    isplitl [HcV2]; · iexact HcV2
    isplitl [HO] <;> iassumption
  iintro ⟨HO, HaV2, Hf2⟩
  iapply (load_step m c _ 2) $$ Hf2
  iintro Hf2
  -- the block of the result
  iapply (wp_load 𝒱₀ (c : Thread nD τ) none Set.univ (m := outM) (Finset.subset_univ _)) $$ Hout; iintro Hout
  iapply (wp_store 𝒱₀ (c : Thread nD τ) none Set.univ (m := outM) (r := blockRect) (Mk := Finset.univ) (Finset.subset_univ _)) $$ Hout; iintro Hout
  rw [write_out]
  -- the three departures: the parts of the column sums back
  iapply (copied_step m K c _ (false, 0) _ rfl _ _ rfl _) $$ [HcS0 HO HaS0]
  · isplitr; · iexact HR
    isplitl [HcS0]; · iexact HcS0
    isplitl [HO] <;> iassumption
  iintro ⟨HO, HaS0, Hp0⟩
  iapply (copied_step m K c _ (false, 1) _ rfl _ _ rfl _) $$ [HcS1 HO HaS1]
  · isplitr; · iexact HR
    isplitl [HcS1]; · iexact HcS1
    isplitl [HO] <;> iassumption
  iintro ⟨HO, HaS1, Hp1⟩
  iapply (copied_step m K c _ (false, 2) _ rfl _ _ rfl _) $$ [HcS2 HO HaS2]
  · isplitr; · iexact HR
    isplitl [HcS2]; · iexact HcS2
    isplitl [HO] <;> iassumption
  iintro ⟨HO, HaS2, Hp2⟩
  -- every cell closes
  imod (close_all m K c) $$ [HaB HaS0 HaS1 HaS2 HaV0 HaV1 HaV2] with Hq
  · isplitr; · iexact HR
    rw [bigSep_roles]
    isplitl [HaB]; · iexact HaB
    isplitl [HaS0]; · iexact HaS0
    isplitl [HaS1]; · iexact HaS1
    isplitl [HaS2]; · iexact HaS2
    isplitl [HaV0]; · iexact HaV0
    isplitl [HaV1] <;> iassumption
  rw [wp_ret]; imodintro
  iapply Hk
  unfold bodyPost Dat.owesAt Pipeline.owesWithin
  rw [show (dats m 0 c).owed t₀.succ = 0 from rfl]
  isplitl [Hq Hp0 Hp1 Hp2 Hf0 Hf1 Hf2]
  · isplitl [Hq]; · iexact Hq
    iapply (scratch_back m c)
    isplitl [Hp0 Hp1 Hp2]
    · isplitl [Hp0]; · iexact Hp0
      isplitl [Hp1] <;> iassumption
    isplitl [Hf0]; · iexact Hf0
    isplitl [Hf1] <;> iassumption
  isplitl [HO]
  · iexists (waited W)
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The body as the launch asks for it. -/
theorem body_obligation (c : Dev nD) : BodyObligation (dats (F := F) m 0 c) (defs₀ (F := F)) 𝒱₀ () Set.univ := fun t => by
  rw [fin_N t]
  rw [bigSep_W0, bigSep_W0]
  simp only [owns_whole_eq]
  show iprop((start m c ∗ scratch c) ∗ (dats m 0 c).owesAt () t₀.castSucc
      ∗ (∃ d, holds c cc0_stg0_0 ((dats m 0 c).before (0 : Fin 2) t₀ d))
      ∗ (∃ d, holds c cc0_stg1_0 ((dats m 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => bodyPost m c)
  unfold start
  iintro ⟨⟨⟨⟨%K, Hg⟩, Hc, Hl⟩, Hscr⟩, Ho, Hx, Hout⟩
  iapply (sound_body m K c fun _ => bodyPost m c)
  unfold bodyPre
  isplitr []
  · isplitl [Hg]; · iexact Hg
    isplitl [Hc]; · iexact Hc
    isplitl [Hl]; · iexact Hl
    isplitl [Hscr]; · iexact Hscr
    isplitl [Ho]; · iexact Ho
    isplitl [Hx] <;> iassumption
  · iintro H; iexact H

end Cert.KernelIdeal.Exchange

end
-- ==== Proof.KernelIdeal.Run.lean ====
/-
The launch: every cell opened, every token dealt to the device that pays with it, the four bodies run, and what the
arrays and the counters hold at the end.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: every counter at zero. -/
def s₀ : MemSt nD τ sig (Elt F) := ⟨m, fun _ => 0, ρ⟩

/-- The kernel's own semaphores: the three send semaphores, then the three receive semaphores. -/
abbrev osem : Fin 6 → SemLoc sig := fun
  | 0 => semOf (some (false, 0)) | 1 => semOf (some (false, 1)) | 2 => semOf (some (false, 2))
  | 3 => semOf (some (true, 0)) | 4 => semOf (some (true, 1)) | 5 => semOf (some (true, 2))

theorem ownSemFacts : Pipeline.OwnSemFacts cfg0.spec osem := by decide

theorem share_eq (c : Dev nD) (w : Fin cfg0.W) : (dats m 0 c).share w = fullShare := by unfold Dat.share; split <;> rfl

/-! ## What is minted -/

def allCells : Finset (GSem nD τ sig) :=
  Finset.univ.map ⟨fun x : Dev nD × Role => cell x.1 x.2, fun x y h => Prod.ext (cell_inj h).1 (cell_inj h).2⟩

/-- The duty tokens of device `c`'s cells, three for each `k`: its barrier's duty `rev k`, its receive cell `k`'s, its
    send cell `k`'s. -/
abbrev tokOf (x : Dev nD × Fin 3 × Option Bool) : GSem nD τ sig × ℕ × Fin 3 :=
  match x.2.2 with
  | none => (barCell x.1, 0, rev x.2.1)
  | some true => (recvCell x.1 x.2.1, 0, 0)
  | some false => (sendCell x.1 x.2.1, 0, 0)

theorem tokOf_injective : Function.Injective tokOf := by
  rintro ⟨c, k, b⟩ ⟨c', k', b'⟩ h
  have h1 := congrArg (fun t : GSem nD τ sig × ℕ × Fin 3 => t.1) h
  have h2 := congrArg (fun t : GSem nD τ sig × ℕ × Fin 3 => t.2.2) h
  rcases b with _ | _ | _ <;> rcases b' with _ | _ | _ <;> simp only [tokOf] at h1 h2 <;> obtain ⟨hc, hr⟩ := cell_inj h1 <;>
    first
      | (cases hr; done)
      | (subst hc; cases hr; rfl)
      | (subst hc; rw [Fin.rev_injective h2])

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device `c`'s own cells with number `k`. -/
def ownToks (c : Dev nD) (k : Fin 3) : sProp 𝕄 :=
  iprop(dutyTok EX (barCell c) 0 (rev k) ∗ dutyTok EX (recvCell c k) 0 0 ∗ dutyTok EX (sendCell c k) 0 0)

/-- What device `c` is dealt of the minted state. -/
def G (c : Dev nD) : sProp 𝕄 :=
  iprop((bigSep Finset.univ fun r : Role => roundState EX (sched m) (cell c r) 0)
    ∗ (bigSep Finset.univ fun r : Role => iprop(atPos EX (cell c r) 0 ∅ 0 ∗ reached EX (cell c r) 0)) ∗ bigSep Finset.univ (ownToks (F := F) c))

def G' (c : Dev nD) : sProp 𝕄 := iprop(∃ K, ghost m K c)

theorem bigSep_kinds (Φ : Option Bool → sProp 𝕄) : bigSep Finset.univ Φ = iprop(Φ none ∗ Φ (some true) ∗ Φ (some false)) :=
  bigSep_univ_eq_bigSepL [none, some true, some false] (by decide) (by decide) Φ

theorem over_cells (Φ : GSem nD τ sig → sProp 𝕄) :
    bigSep allCells Φ = bigSep Finset.univ fun c : Dev nD => bigSep Finset.univ fun r : Role => Φ (cell c r) := by
  unfold allCells; rw [bigSep_map, bigSep_univ_prod]; rfl

theorem over_toks : bigSep allToks (fun x => (dutyTok EX x.1 x.2.1 x.2.2 : sProp 𝕄))
    = bigSep Finset.univ fun c : Dev nD => bigSep Finset.univ (ownToks (F := F) c) := by
  unfold allToks; rw [bigSep_map, bigSep_univ_prod]
  refine bigSep_congr fun c _ => ?_
  rw [bigSep_univ_prod]
  refine bigSep_congr fun k _ => ?_
  unfold ownToks; rw [bigSep_kinds]; rfl

theorem mint : BI.own (EX (initOf allCells allToks)) ⊢ (|==> bigSep Finset.univ (G m) : sProp 𝕄) := by
  iintro HX
  imod (Rounds.fund EX (sched m) allCells allToks) $$ HX with ⟨Hst, Hr, Hat, Htok⟩
  imodintro
  ihave Hst := (Entails.of_eq (over_cells fun g => roundState EX (sched m) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold G; simp only [bigSep_sep']
  isplitl [Hst]; · iexact Hst
  isplitl [Hat Hr]
  · isplitl [Hat] <;> iassumption
  iexact Htok

/-! ## The cells are opened and the tokens dealt around -/

/-- The launch's counters at zero are the seven cells'. -/
theorem sems0_eq (c : Dev nD) :
    iprop(unscopedSems0 c ∗ Pipeline.ownSems0 (Ix := Unit) (Name := ℕ) (U := UU) (Lvl := ℕ) (Val := Elt F) (τ := τ) osem c)
      = (quiet c : sProp 𝕄) := by
  unfold quiet
  rw [Pipeline.ownSems0_eq_of_list c osem [0, 1, 2, 3, 4, 5] (by decide) (by decide), bigSep_roles]
  unfold unscopedSems0; rw [bigSep_eq_bigSepL_of_eq [SemLoc.reg barS] (by decide) (by decide)]; rfl

theorem core_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun r : Role => iprop(∃ κ : ℕ, cellInv EX (sched m) κ (cell c r)))
          ∗ (bigSep Finset.univ fun r : Role => iprop(atPos EX (cell c r) 0 ∅ 0 ∗ reached EX (cell c r) 0)) ∗ bigSep Finset.univ (ownToks (F := F) c)) := by
  unfold G
  iintro ⟨Hos, Hus, Hst, Hat, Htok⟩
  ihave Hv := (Entails.of_eq (sems0_eq (F := F) c)) $$ [Hos Hus]
  · isplitl [Hus] <;> iassumption
  unfold quiet
  imod (show iprop((bigSep Finset.univ fun r : Role => semVal (cell c r) 0) ∗ bigSep Finset.univ fun r : Role => roundState EX (sched m) (cell c r) 0)
      ⊢ (|={Set.univ}=> bigSep Finset.univ fun r : Role => iprop(∃ κ : ℕ, cellInv EX (sched m) κ (cell c r)) : sProp 𝕄) from by
        rw [← bigSep_sep']
        exact (bigSep_mono fun r _ => (Rounds.body_intro EX (sched m) (cell c r)).trans inv_alloc).trans (bigSep_fupd _ _)) $$ [Hv Hst] with Hinv
  · isplitl [Hv] <;> iassumption
  imodintro
  isplitl [Hinv]; · iexact Hinv
  isplitl [Hat]; · iexact Hat
  iexact Htok

/-- For each `k`, the tokens of `up k c`'s cells go to `c`. -/
theorem deal_one (k : Fin 3) : (bigSep Finset.univ fun c : Dev nD => (ownToks c k : sProp 𝕄)) ⊢ bigSep Finset.univ fun c : Dev nD => payToks c k := by
  unfold ownToks payToks
  rw [bigSep_sep', bigSep_sep', bigSep_sep', bigSep_sep',
    bigSep_univ_equiv (turn k) (fun c : Dev nD => (dutyTok EX (barCell c) 0 (rev k) : sProp 𝕄)),
    bigSep_univ_equiv (turn k) (fun c : Dev nD => (dutyTok EX (recvCell c k) 0 0 : sProp 𝕄))]
  exact BI.Entails.refl _

theorem deal : (bigSep Finset.univ fun c : Dev nD => (bigSep Finset.univ (ownToks c) : sProp 𝕄))
    ⊢ bigSep Finset.univ fun c : Dev nD => bigSep Finset.univ fun k : Fin 3 => payToks c k := by
  simp only [bigSep_three, bigSep_sep']
  iintro ⟨H0, H1, H2⟩
  isplitl [H0]; · iapply (deal_one 0); iexact H0
  isplitl [H1]; · iapply (deal_one 1); iexact H1
  iapply (deal_one 2); iexact H2

theorem with_records (K : Dev nD × Role → ℕ) :
    iprop(records m K ∗ bigSep Finset.univ fun c : Dev nD => mine c) ⊢ (bigSep Finset.univ (G' m) : sProp 𝕄) := by
  refine (sep_mono_left (BI.bigSep_of_persistent (Finset.univ : Finset (Dev nD)) (records m K))).trans ?_
  rw [← bigSep_sep']
  exact bigSep_mono fun c _ => show ghost m K c ⊢ iprop(∃ K, ghost m K c) from by
    iintro H
    iexists K; iexact H

theorem share_out :
    (bigSep Finset.univ fun c : Dev nD => iprop((bigSep Finset.univ fun r : Role => iprop(∃ κ : ℕ, cellInv EX (sched m) κ (cell c r)))
          ∗ (bigSep Finset.univ fun r : Role => iprop(atPos EX (cell c r) 0 ∅ 0 ∗ reached EX (cell c r) 0)) ∗ bigSep Finset.univ (ownToks (F := F) c)) : sProp 𝕄)
      ⊢ bigSep Finset.univ (G' m) := by
  rw [bigSep_sep', bigSep_sep', ← bigSep_univ_prod (fun x : Dev nD × Role => iprop(∃ κ : ℕ, cellInv EX (sched m) κ (cell x.1 x.2))),
    bigSep_congr (s := Finset.univ) (fun (c : Dev nD) _ => bigSep_sep' Finset.univ (fun r : Role => (atPos EX (cell c r) 0 ∅ 0 : sProp 𝕄)) (fun r => reached EX (cell c r) 0)),
    bigSep_sep', ← bigSep_univ_prod (fun x : Dev nD × Role => (reached EX (cell x.1 x.2) 0 : sProp 𝕄))]
  iintro ⟨HI, ⟨Hat, #HR⟩, Htok⟩
  ihave HK := (BI.bigSep_exists_pi Finset.univ (fun (x : Dev nD × Role) (κ : ℕ) => (cellInv EX (sched m) κ (cell x.1 x.2) : sProp 𝕄))) $$ HI
  icases HK with ⟨%K, #HI⟩
  ihave Htk := (deal (F := F)) $$ Htok
  iapply (with_records m K)
  isplitr
  · unfold records; isplitl; · iexact HI
    iexact HR
  · unfold mine
    rw [bigSep_sep']
    isplitl [Hat]; · iexact Hat
    iexact Htk

theorem opened : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_open m c).trans (bigSep_fupd _ _)).trans (BI.fupd_mono (share_out m))

/-! ## The credit at launch -/

theorem bar_tally (d c : Dev nD) (k : Fin 3) : owesBar d k (barCell c) () = if d = up (rev k) c then 1 else 0 := by
  rw [tallyAt_apply]
  by_cases h : d = up (rev k) c
  · subst h; rw [up_up_rev, if_pos ⟨rfl, rfl⟩, if_pos rfl]
  · rw [if_neg fun h' => h (by rw [(cell_inj h'.1).1, up_rev_up]), if_neg h]
theorem recv_tally (d c : Dev nD) (k j : Fin 3) : owesRecv d k (recvCell c j) () = if k = j ∧ d = up (rev j) c then N else 0 := by
  rw [tallyAt_apply]
  by_cases h : k = j ∧ d = up (rev j) c
  · obtain ⟨rfl, rfl⟩ := h; rw [up_up_rev, if_pos ⟨rfl, rfl⟩, if_pos ⟨rfl, rfl⟩]
  · rw [if_neg fun h' => h (by
      obtain ⟨h1, h2⟩ := cell_inj h'.1
      have : j = k := congrArg Prod.snd (Option.some.inj h2)
      subst this
      exact ⟨rfl, by rw [h1, up_rev_up]⟩), if_neg h]
theorem bar_tally_recv (d c : Dev nD) (k j : Fin 3) : owesBar d k (recvCell c j) () = 0 := by
  rw [tallyAt_apply, if_neg fun h' => by cases (cell_inj h'.1).2]
theorem recv_tally_bar (d c : Dev nD) (k : Fin 3) : owesRecv d k (barCell c) () = 0 := by
  rw [tallyAt_apply, if_neg fun h' => by cases (cell_inj h'.1).2]

theorem owed_bar (d c : Dev nD) :
    O₀ d (barCell c) () = (if d = up (rev 2) c then 1 else 0) + (if d = up (rev 1) c then 1 else 0) + (if d = up (rev 0) c then 1 else 0) := by
  unfold O₀ O₁
  simp only [Pi.add_apply, Finsupp.add_apply, Pi.zero_apply, Finsupp.coe_zero]
  rw [recv_tally_bar d c 0, recv_tally_bar d c 1, recv_tally_bar d c 2, bar_tally d c 0, bar_tally d c 1, bar_tally d c 2]
  simp only [Nat.zero_add]
theorem owed_recv (d c : Dev nD) (j : Fin 3) : O₀ d (recvCell c j) () = if d = up (rev j) c then N else 0 := by
  unfold O₀ O₁
  simp only [Pi.add_apply, Finsupp.add_apply, Pi.zero_apply, Finsupp.coe_zero]
  rw [bar_tally_recv d c 0 j, bar_tally_recv d c 1 j, bar_tally_recv d c 2 j, recv_tally d c 0 j, recv_tally d c 1 j, recv_tally d c 2 j]
  by_cases h : d = up (rev j) c
  · rw [if_pos h]; subst h; fin_cases j <;> simp
  · rw [if_neg h, if_neg fun h' => h h'.2, if_neg fun h' => h h'.2, if_neg fun h' => h h'.2]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k]
  simp only [Finset.sum_ite_eq', Finset.mem_univ, if_true]

/-- The receive semaphores, as an embedding. -/
def recvSems : Fin 3 ↪ SemLoc sig := ⟨fun k => semOf (some (true, k)), fun k k' h => congrArg Prod.snd (Option.some.inj (semOf_injective h))⟩

theorem creds (c : Dev nD) : (Pipeline.launchCred O₀ c : sProp 𝕄) ⊢ credits c := by
  unfold Pipeline.launchCred credits
  rw [bigSep_univ_at _ (SemLoc.reg barS), launch_bar]
  refine sep_mono_right ?_
  refine (BI.bigSep_subset (t := Finset.univ.map recvSems) fun s hs => ?_).trans ?_
  · obtain ⟨k, -, rfl⟩ := Finset.mem_map.mp hs
    exact Finset.mem_erase.mpr ⟨fun h => Option.some_ne_none _ (semOf_injective (a₁ := some (true, k)) (a₂ := none) h), Finset.mem_univ _⟩
  · rw [bigSep_map]
    exact bigSep_mono fun k _ => Entails.of_eq (congrArg cred (launch_recv c k))

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, scopedRest0_eq]
  unfold scratch
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(quiet c ∗ scratch c) from rfl, scopedRest0_eq, ← sems0_eq]
  unfold scratch
  iintro ⟨⟨Hu, Ho⟩, Hr⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the array of window `w` holds on device `c` at the end. -/
def finalA (c : Dev nD) (w : Fin cfg0.W) : Buf (Elt F) ((cfg0.win w).arr.view.loc (c : Thread nD τ)) := (dats m 0 c).arrAt w cfg0.N

def Finished : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with counters at zero the program ends, with every array at its computed contents and every counter
    at zero again. -/
theorem run_main : θ_run defs (onTc (τ := τ) (main (F := F))) (s₀ m ρ) (fun r => Finished m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := opened m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.KernelIdeal.Result.lean ====
/-
What the two arrays of every device hold when the program has ended: the operand as it was, the result at the block the
body computes.
-/
module

public import proofs.«01_k».proof.Proof.KernelIdeal.Run

@[expose] public section

noncomputable section

namespace Cert.KernelIdeal.Exchange

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one block of the operand's window is the whole operand. -/
theorem xstg_eq (c : Dev nD) : xstg m c = m ((c : Thread nD τ).loc main_arg0) :=
  Memref.read_access_unit_zero (Elt F) main_arg0 (funext fun a => by fin_cases a <;> decide) _ _

/-- The one block of the result's window is the whole result. -/
theorem read_result (c : Dev nD) (f : Buf (Elt F) ((c : Thread nD τ).loc main_v1)) :
    (win0_1.blk (0 : Fin 1)).view.read (Elt F) f = f :=
  Memref.read_access_unit_zero (Elt F) main_v1 (funext fun a => by fin_cases a <;> decide) _ _

theorem operand_kept (c : Dev nD) : finalA m c (0 : Fin 2) = m ((c : Thread nD τ).loc main_arg0) :=
  (dats m 0 c).arrAt_in (0 : Fin 2) rfl _

theorem result_written (c : Dev nD) : finalA m c (1 : Fin 2) = outAt m c := by
  refine (read_result c _).symm.trans ?_
  unfold finalA
  rw [show cfg0.N = ((0 : Fin 1) : Fin cfg0.N).val + 1 from rfl, (dats m 0 c).arrAt_succ (1 : Fin 2) (0 : Fin 1),
    if_pos (show (cfg0.win (1 : Fin 2)).flush (0 : Fin 1) = true from rfl)]
  exact View.read_write_univ _ _

/-- Every execution ends, with each device's result at its block, its operand as it was, and every counter at zero. -/
theorem run_result : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)) ∧ r.2.sem = fun _ => 0) :=
  (θ_run defs _ _).mono (fun _ h => ⟨fun c => ⟨(h.1 c (1 : Fin 2)).trans (result_written m c),
    (h.1 c (0 : Fin 2)).trans (operand_kept m c)⟩, h.2⟩) (run_main m ρ)

/-- The same without the result: what is said of the program at any reading of the floats. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_result m ρ)

end Cert.KernelIdeal.Exchange

end
-- ==== Proof.Value.Block.lean ====
/-
What one device computes, read at an index: the column sums it sends, the running sums of its own block, and the total
of the blocks before its own.
-/
module

public import proofs.«01_k».proof.Proof.KernelIdeal.Result
public import Idealize.ShloMosaic.Lib.Pointwise

@[expose] public section

noncomputable section

namespace Cert.KernelIdeal.Scan

open Cert.KernelIdeal Cert.KernelIdeal.Gen Cert.KernelIdeal.Exchange
open Idealize.ShloMosaic

/-- The column sums of a block. -/
theorem column_sums (x : FVec Ideal S512x512 .bf16) (j : Fin 512) :
    k0_pay2 (F := Ideal) x (ix2 (0 : Fin 1) j) = ∑ k : Fin 512, x (ix2 k j) := by
  pointwise [k0_pay2, k0_pay1]

/-- A row's number, as a word read signed, is the number. -/
theorem toInt_small (k : Fin 512) : (BitVec.ofNat 32 k.val).toInt = (k.val : ℤ) := by
  have hk := k.isLt
  have h : (BitVec.ofNat 32 k.val).toNat = k.val := by rw [BitVec.toNat_ofNat]; omega
  rw [BitVec.toInt_eq_toNat_of_lt (by rw [h]; omega), h]

/-- An entry of the lower triangle of ones. -/
theorem triangle (i k : Fin 512) :
    (FloatOps.sitofp (F := Ideal) FTy.f32 (BitVec.setWidth 32 (IntOp.cmpi CmpIPredicate.sge (BitVec.ofNat 32 i.val) (BitVec.ofNat 32 k.val))) : EReal)
      = if k ≤ i then 1 else 0 := by
  have hi := i.isLt
  have hk := k.isLt
  have h : IntOp.cmpi CmpIPredicate.sge (BitVec.ofNat 32 i.val) (BitVec.ofNat 32 k.val) = BitVec.ofBool (decide (k ≤ i)) := by
    simp only [IntOp.cmpi, BitVec.sle]
    rw [toInt_small k, toInt_small i]
    exact congrArg BitVec.ofBool (decide_eq_decide.2 (Int.ofNat_le.trans Fin.le_def.symm))
  rw [h]
  by_cases hki : k ≤ i
  · rw [if_pos hki, decide_eq_true hki]; simp [FloatOps.sitofp]
  · rw [if_neg hki, decide_eq_false hki]; simp [FloatOps.sitofp]

/-- The product with the lower triangle of ones is the running sum down each column. -/
theorem running_sums (x : FVec Ideal S512x512 .bf16) (i j : Fin 512) :
    k0_pay3 (F := Ideal) (k0_pay1 x) (ix2 i j) = ∑ k : Fin 512, if k ≤ i then x (ix2 k j) else 0 := by
  pointwise [k0_pay3, k0_pay1]
  refine Finset.sum_congr rfl fun k _ => ?_
  rw [triangle]
  split
  · exact one_mul _
  · exact zero_mul _

/-- Whether the device `s` places before the one numbered `w` comes earlier in the array, as the body computes it. -/
def before (s w : BitVec 32) : BitVec 1 :=
  let n : BitVec 32 := Scalar.select (Scalar.cmpi .eq 4#32 0#32) 1#32 4#32
  let t : BitVec 32 := Scalar.remsi (Scalar.subi w s) n
  Scalar.cmpi .slt (Scalar.select (Scalar.andi (Scalar.xori (Scalar.cmpi .slt t 0#32) (Scalar.cmpi .slt n 0#32)) (Scalar.cmpi .ne t 0#32))
    (Scalar.addi t n) t) w

/-- Going back `k + 1` places from device `c` stays inside the array exactly when `k < c`. -/
theorem before_word (c : Dev nD) (k : Fin 3) : before (BitVec.ofNat 32 (k.val + 1)) (word c) = BitVec.ofBool (decide (k.val < c.val)) := by
  revert c k; decide

/-- The total carried in, with one device's sums added if the bit says that they count. -/
def carry (b : BitVec 1) (acc s : FVec Ideal S1x512 .f32) : FVec Ideal S1x512 .f32 :=
  addf acc (mulf s (broadcast S1x512 (Scalar.select b (Scalar.ofBits .f32 0x3F800000#32) (Scalar.ofBits .f32 0x00000000#32))))

theorem carry_apply (b : Bool) (acc s : FVec Ideal S1x512 .f32) (j : Fin 512) :
    carry (BitVec.ofBool b) acc s (ix2 (0 : Fin 1) j) = acc (ix2 (0 : Fin 1) j) + if b then s (ix2 (0 : Fin 1) j) else 0 := by
  unfold carry
  pointwise
  cases b
  · rw [if_neg Bool.false_ne_true, if_neg Bool.false_ne_true, mul_zero]
  · rw [if_pos rfl, if_pos rfl, mul_one]

theorem carried_two (w : BitVec 32) (b : BitVec 1) (acc s₀ s₁ : FVec Ideal S1x512 .f32) :
    k0_pay5 (F := Ideal) w acc b (lift s₀) (lift s₁) = carry (before 2#32 w) (carry b acc s₀) s₁ := by
  unfold k0_pay5
  rw [shapeCast_lift, shapeCast_lift]
  rfl

theorem carried_in (w : BitVec 32) (own : FVec Ideal S512x512 .f32) (acc s₂ : FVec Ideal S1x512 .f32) (i j : Fin 512) :
    k0_pay6 (F := Ideal) w own acc (lift s₂) (ix2 i j) = own (ix2 i j) + carry (before 3#32 w) acc s₂ (ix2 (0 : Fin 1) j) := by
  unfold k0_pay6
  rw [shapeCast_lift]
  change truncf .bf16 (addf own (broadcastTo S512x512 (carry (before 3#32 w) acc s₂) broadcasts_S1x512_S512x512)) bitsLt_bf16_f32 (ix2 i j) = _
  pointwise

theorem nothing_yet (j : Fin 512) : k0_pay4 (F := Ideal) (ix2 (0 : Fin 1) j) = 0 := by
  pointwise [k0_pay4]

variable (m : (ℓ : Loc nD τ sig) → Buf (Elt Ideal) ℓ)

/-- Device `c`'s block of the operand. -/
abbrev operand (c : Dev nD) : FVec Ideal S512x512 .bf16 := m ((c.tc : Thread nD τ).loc main_arg0)

/-- What lands in slot `k` are the column sums of the device `k + 1` places before. -/
theorem landed_sums (c : Dev nD) (k : Fin 3) (j : Fin 512) :
    landed (F := Ideal) m c k (ix2 (0 : Fin 1) j) = ∑ l : Fin 512, operand m (up (rev k) c) (ix2 l j) := by
  unfold landed sums
  rw [xstg_eq, column_sums]

/-- A device's result: the running sums of its block, and the sums of each block that comes before it. -/
theorem outAt_apply (c : Dev nD) (i j : Fin 512) :
    outAt (F := Ideal) m c (ix2 i j)
      = (∑ k : Fin 512, if k ≤ i then operand m c (ix2 k j) else 0)
        + ((0 + (if 0 < c.val then ∑ l : Fin 512, operand m (up 2 c) (ix2 l j) else 0)
            + if 1 < c.val then ∑ l : Fin 512, operand m (up 1 c) (ix2 l j) else 0)
          + if 2 < c.val then ∑ l : Fin 512, operand m (up 0 c) (ix2 l j) else 0) := by
  have h0 : before1 (word c) = BitVec.ofBool (decide (0 < c.val)) := before_word c 0
  have h1 : before 2#32 (word c) = BitVec.ofBool (decide (1 < c.val)) := before_word c 1
  have h2 : before 3#32 (word c) = BitVec.ofBool (decide (2 < c.val)) := before_word c 2
  unfold outAt
  rw [carried_in, carried_two, h0, h1, h2, carry_apply, carry_apply, carry_apply, nothing_yet, running_sums, xstg_eq,
    landed_sums, landed_sums, landed_sums]
  simp only [decide_eq_true_eq]
  rfl

end Cert.KernelIdeal.Scan

end
-- ==== Proof.Value.Reference.lean ====
/-
What the reference computes, read at an index: the sum of a column down to the row.
-/
module

public import proofs.«01_k».proof.Proof.Gen.ReferenceIdeal
public import proofs.«01_k».proof.Proof.Gen.ReferenceIdeal.Run
public import Idealize.ShloMosaic.Lib.Pointwise
public import Idealize.ShloMosaic.Lib.Quiescent

@[expose] public section

noncomputable section

namespace Cert.ReferenceIdeal.Scan

open Cert.ReferenceIdeal Cert.ReferenceIdeal.Gen
open Idealize.ShloMosaic Idealize.ShloMosaic.TcCoe Idealize.SL.Sem

/-- Adding the terms of a range one after another is adding their sum. -/
theorem fold_sum {n : ℕ} (g : Fin n → EReal) (v : EReal) : (List.finRange n).foldl (fun r k => r + g k) v = v + ∑ k : Fin n, g k := by
  rw [← List.sum_ofFn, List.ofFn_eq_map]
  generalize List.finRange n = l
  induction l generalizing v with
  | nil => simp
  | cons a l ih => rw [List.foldl_cons, ih, List.map_cons, List.sum_cons, add_assoc]

/-- The window of row `R` holds the rows up to `R`, turned round by `R + 1` places. -/
theorem turned (R : Fin 2048) (f : Fin 2048 → EReal) :
    (∑ a : Fin 2048, if h : 2047 ≤ R.val + a.val then f ⟨R.val + a.val - 2047, by omega⟩ else 0) = ∑ r : Fin 2048, if r ≤ R then f r else 0 := by
  rw [← Equiv.sum_comp (Equiv.addRight (⟨(R.val + 1) % 2048, Nat.mod_lt _ (by decide)⟩ : Fin 2048)) fun r => if r ≤ R then f r else 0]
  refine Finset.sum_congr rfl fun a _ => ?_
  have hv : (a + (⟨(R.val + 1) % 2048, Nat.mod_lt _ (by decide)⟩ : Fin 2048)).val = (a.val + (R.val + 1) % 2048) % 2048 := Fin.val_add _ _
  rw [Equiv.coe_addRight]
  have hR := R.isLt
  have ha := a.isLt
  by_cases h : 2047 ≤ R.val + a.val
  · rw [dif_pos h, if_pos (Fin.le_def.2 (by rw [hv]; omega))]
    exact congrArg f (Fin.ext (by rw [hv]; show R.val + a.val - 2047 = _; omega))
  · rw [dif_neg h, if_neg fun h' => h (by have := Fin.le_def.1 h'; rw [hv] at this; omega)]

/-- The reference's result: its window sum of the operand. -/
abbrev whole (x : FVec Ideal S2048x512 .bf16) : FVec Ideal S2048x512 .bf16 :=
  Host.reduceWindowAdd ![2048, 1] ![1, 1] ![2047, 0] ![0, 0] x (broadcastInDim S_ ![] bcast_S_S_ (constant S_ .bf16 0x0000#16))
    reduceWindows_S2048x512_S2048x512_w2048s1p2047_0_w1s1p0_0 h_S_

/-- The reference's result at row `R` of column `j`. -/
theorem window_sum (x : FVec Ideal S2048x512 .bf16) (R : Fin 2048) (j : Fin 512) :
    whole x (ix2 R j) = ∑ r : Fin 2048, if r ≤ R then x (ix2 r j) else 0 := by
  unfold whole Host.reduceWindowAdd
  rw [Ideal.hostReduceWindowAdd_def]
  unfold Ideal.hostReduceWindowAdd Host.reduceWindow
  have hz : (broadcastInDim S_ ![] bcast_S_S_ (constant (F := Ideal) S_ .bf16 0x0000#16)) (Shape.Idx.first h_S_) = (0 : EReal) := by
    pointwise
  rw [hz]
  dsimp only
  rw [fold_sum, zero_add, ← Equiv.sum_comp (Shape.rowMajor (⟨2, ![2048, 1]⟩ : Shape))]
  simp only [Equiv.symm_apply_apply]
  refine (sum_idx2 _).trans ((Finset.sum_congr rfl fun a _ => ?_).trans (turned R fun r => x (ix2 r j)))
  rw [Fin.sum_univ_one]
  have hR := R.isLt
  have ha := a.isLt
  have hj := j.isLt
  split
  · next hin =>
    have h0 : 2047 ≤ R.val * 1 + a.val := (hin 0).1
    rw [dif_pos (by omega)]
    refine congrArg x (funext fun d => Fin.ext ?_)
    match d with
    | ⟨0, _⟩ => show R.val * 1 + a.val - 2047 = R.val + a.val - 2047; rw [Nat.mul_one]
    | ⟨1, _⟩ => show j.val * 1 + 0 - 0 = j.val; omega
  · next hout =>
    rw [dif_neg]
    intro h
    refine hout (Fin.forall_fin_two.2 ⟨?_, ?_⟩)
    · show 2047 ≤ R.val * 1 + a.val ∧ R.val * 1 + a.val - 2047 < 2048; omega
    · show 0 ≤ j.val * 1 + 0 ∧ j.val * 1 + 0 - 0 < 512; omega

/-- Every execution of the reference ends with its operand as it was and, having no semaphore, with every counter at zero. -/
theorem run_frame (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (Value.run m ρ)

end Cert.ReferenceIdeal.Scan

end
-- ==== Proof.Value.Equation.lean ====
/-
The equation between the two: a sum down to a row of the whole array is the sum of the blocks before the row's own and
the sum down to the row within its block.
-/
module

public import proofs.«01_k».proof.Proof.Value.Block
public import proofs.«01_k».proof.Proof.Value.Reference
public import Idealize.ShloMosaic.Lib.Layout

@[expose] public section

noncomputable section

namespace Cert.Scan

open Idealize.ShloMosaic Idealize.ShloMosaic.TcCoe
open Cert.KernelIdeal.Exchange (outAt up)

/-- Row `k` of block `d`, in the whole array. -/
def row (d : Fin 4) (k : Fin 512) : Fin 2048 := ⟨d.val * 512 + k.val, by have := d.isLt; have := k.isLt; omega⟩

/-- A sum over the rows, block by block. -/
theorem by_blocks (f : Fin 2048 → EReal) : ∑ r : Fin 2048, f r = ∑ d : Fin 4, ∑ k : Fin 512, f (row d k) := by
  rw [← Equiv.sum_comp (finProdFinEquiv (m := 4) (n := 512)) f, Fintype.sum_prod_type]
  refine Finset.sum_congr rfl fun d _ => Finset.sum_congr rfl fun k _ => congrArg f (Fin.ext ?_)
  show k.val + 512 * d.val = d.val * 512 + k.val
  omega

/-- What block `d` adds to row `i` of block `c`: all of it, none of it, or its rows down to `i`. -/
theorem block_part (c d : Fin 4) (i : Fin 512) (f : Fin 512 → EReal) :
    (∑ k : Fin 512, if row d k ≤ row c i then f k else 0)
      = if d < c then ∑ k : Fin 512, f k else if d = c then ∑ k : Fin 512, if k ≤ i then f k else 0 else 0 := by
  have hi := i.isLt
  have key (k : Fin 512) : row d k ≤ row c i ↔ d.val * 512 + k.val ≤ c.val * 512 + i.val := Iff.rfl
  split_ifs with h1 h2
  · exact Finset.sum_congr rfl fun k _ => if_pos ((key k).2 (by have := k.isLt; have := Fin.lt_def.1 h1; omega))
  · subst h2
    exact Finset.sum_congr rfl fun k _ => if_congr ((key k).trans (by rw [Fin.le_def]; omega)) rfl rfl
  · refine Finset.sum_eq_zero fun k _ => if_neg fun h => ?_
    have h3 := (key k).1 h
    have h4 : c.val < d.val := by
      rcases Nat.lt_trichotomy d.val c.val with h | h | h
      · exact absurd (Fin.lt_def.2 h) h1
      · exact absurd (Fin.ext h) h2
      · exact h
    omega

/-- The four devices' terms, in the order in which device `c` adds them, are the sum down to its row. -/
theorem scan_eq (c : Fin 4) (i : Fin 512) (f : Fin 4 → Fin 512 → EReal) :
    (∑ k : Fin 512, if k ≤ i then f c k else 0)
        + ((0 + (if 0 < c.val then ∑ l : Fin 512, f (up 2 c) l else 0) + if 1 < c.val then ∑ l : Fin 512, f (up 1 c) l else 0)
          + if 2 < c.val then ∑ l : Fin 512, f (up 0 c) l else 0)
      = ∑ d : Fin 4, ∑ k : Fin 512, if row d k ≤ row c i then f d k else 0 := by
  rw [Finset.sum_congr rfl fun d _ => block_part c d i (f d), Fin.sum_univ_four]
  match c with
  | 0 => simp
  | 1 =>
    rw [show up 2 (1 : Fin 4) = 0 from rfl]
    simp
    abel
  | 2 =>
    rw [show up 2 (2 : Fin 4) = 1 from rfl, show up 1 (2 : Fin 4) = 0 from rfl]
    simp
    abel
  | 3 =>
    rw [show up 2 (3 : Fin 4) = 2 from rfl, show up 1 (3 : Fin 4) = 1 from rfl, show up 0 (3 : Fin 4) = 0 from rfl]
    simp
    abel

open Cert.KernelIdeal in
/-- Each device's block of the kernel's result is its block of any array that holds, at row `r` of each column, the sum
    of the operand's column down to `r`. -/
theorem outAt_block (m : (ℓ : Loc nD τ sig) → Buf (Elt Ideal) ℓ) (x y : FVec Ideal ⟨2, ![2048, 512]⟩ .bf16)
    (hx : ∀ c : Dev nD, m ((c.tc : Thread nD τ).loc main_arg0) = Layout.block ⟨2, ![512, 512]⟩ ⟨2, ![2048, 512]⟩ 0 4 c x)
    (hy : ∀ (R : Fin 2048) (j : Fin 512), y (ix2 R j) = ∑ r : Fin 2048, if r ≤ R then x (ix2 r j) else 0) (c : Dev nD) :
    outAt (F := Ideal) m c = Layout.block ⟨2, ![512, 512]⟩ ⟨2, ![2048, 512]⟩ 0 4 c y := by
  have at_row (v : FVec Ideal ⟨2, ![2048, 512]⟩ .bf16) (d : Fin 4) (k j : Fin 512) :
      Layout.block ⟨2, ![512, 512]⟩ ⟨2, ![2048, 512]⟩ 0 4 d v (by decide) (ix2 k j) = v (ix2 (row d k) j) :=
    congrArg v (funext fun a => Fin.ext (by match a with | ⟨0, _⟩ => rfl | ⟨1, _⟩ => rfl))
  have op (d : Dev nD) (k j : Fin 512) : Scan.operand m d (ix2 k j) = x (ix2 (row d k) j) :=
    (congrFun (hx d) (ix2 k j)).trans (at_row x d k j)
  have entry (i j : Fin 512) : outAt (F := Ideal) m c (ix2 i j) = y (ix2 (row c i) j) := by
    refine (Scan.outAt_apply m c i j).trans ((scan_eq c i fun d k => Scan.operand m d (ix2 k j)).trans ?_)
    rw [hy, by_blocks]
    exact Finset.sum_congr rfl fun d _ => Finset.sum_congr rfl fun k _ => if_congr Iff.rfl (op d k j) rfl
  funext p
  rw [eq_ix2 p]
  exact (entry (p 0) (p 1)).trans (at_row y c (p 0) (p 1)).symm

end Cert.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value.Equation
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Exchange.run_frame m g,
  fun m g _ => Cert.KernelIdeal.Exchange.run_frame m g,
  fun m g _ => Cert.ReferenceIdeal.Scan.run_frame m g,
  trivial,
  fun m g m' g' _ hx => ⟨Cert.ReferenceIdeal.Scan.whole (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.Scan.outAt_block m _ _ hx (Cert.ReferenceIdeal.Scan.window_sum _) c), (h.1 c).2⟩)
      (Cert.KernelIdeal.Exchange.run_result m g),
    (θ_run Cert.ReferenceIdeal.defs _ _).mono (fun _ h => h 0) (Cert.ReferenceIdeal.Value.run m' g')⟩⟩

end Cert.Proof

end
